-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.HalfStatement Cert.KernelIdeal.S128x256
  ∧ IdealRules.bf16_pair.Statement Cert.KernelIdeal.S256x256 Cert.KernelIdeal.S128x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x4096 : Shape := ⟨3, ![192, 1, 4096]⟩
abbrev S2048x7168 : Shape := ⟨2, ![2048, 7168]⟩
abbrev S32x7168 : Shape := ⟨2, ![32, 7168]⟩
abbrev S192x4096 : Shape := ⟨2, ![192, 4096]⟩
abbrev S192x7168 : Shape := ⟨2, ![192, 7168]⟩
abbrev S2048x1024 : Shape := ⟨2, ![2048, 1024]⟩
abbrev S32x1024 : Shape := ⟨2, ![32, 1024]⟩
abbrev S192x1024 : Shape := ⟨2, ![192, 1024]⟩
abbrev S256x256 : Shape := ⟨2, ![256, 256]⟩
abbrev S192x128 : Shape := ⟨2, ![192, 128]⟩
abbrev S192x256 : Shape := ⟨2, ![192, 256]⟩
abbrev S128x256 : Shape := ⟨2, ![128, 256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S192x1x4096, .bf16⟩
  | .hbm, ⟨1, _⟩ => ⟨S2048x7168, .i8⟩
  | .hbm, ⟨2, _⟩ => ⟨S32x7168, .bf16⟩
  | .hbm, ⟨3, _⟩ => ⟨S192x4096, .bf16⟩
  | .hbm, ⟨4, _⟩ => ⟨S192x7168, .bf16⟩
  | .local _ .vmem, ⟨0, _⟩ => ⟨S192x4096, .bf16⟩
  | .local _ .vmem, ⟨1, _⟩ => ⟨S2048x1024, .i8⟩
  | .local _ .vmem, ⟨2, _⟩ => ⟨S2048x1024, .i8⟩
  | .local _ .vmem, ⟨3, _⟩ => ⟨S32x1024, .bf16⟩
  | .local _ .vmem, ⟨4, _⟩ => ⟨S32x1024, .bf16⟩
  | .local _ .vmem, ⟨5, _⟩ => ⟨S192x1024, .bf16⟩
  | .local _ .vmem, ⟨6, _⟩ => ⟨S192x1024, .bf16⟩
  | .local _ .vmem, ⟨7, _⟩ => ⟨S192x4096, .bf16⟩
  | _, _ => ⟨S192x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S192x1x4096 : Shape := ⟨3, ![192, 1, 4096]⟩
abbrev S2048x7168 : Shape := ⟨2, ![2048, 7168]⟩
abbrev S32x7168 : Shape := ⟨2, ![32, 7168]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S192x1x32x128 : Shape := ⟨4, ![192, 1, 32, 128]⟩
abbrev S192x4096 : Shape := ⟨2, ![192, 4096]⟩
abbrev S4096x7168 : Shape := ⟨2, ![4096, 7168]⟩
abbrev S32x128x7168 : Shape := ⟨3, ![32, 128, 7168]⟩
abbrev S32x1x7168 : Shape := ⟨3, ![32, 1, 7168]⟩
abbrev S192x7168 : Shape := ⟨2, ![192, 7168]⟩

abbrev nBuf : Space → Nat
  | .hbm => 61
  | .vmem => 0
  | .smem => 0
  | _ => 0

abbrev bufTy : (tb : Table) → Fin (tcTables nBuf tb) → BufTy
  | .hbm, ⟨0, _⟩ => ⟨S192x1x4096, .bf16⟩
  | .hbm, ⟨1, _⟩ => ⟨S2048x7168, .i8⟩
  | .hbm, ⟨2, _⟩ => ⟨S32x7168, .bf16⟩
  | .hbm, ⟨3, _⟩ => ⟨S_, .f32⟩
  | .hbm, ⟨4, _⟩ => ⟨S1x1, .f32⟩
  | .hbm, ⟨5, _⟩ => ⟨S1x2, .f32⟩
  | .hbm, ⟨6, _⟩ => ⟨S1x1, .f32⟩
  | .hbm, ⟨7, _⟩ => ⟨S1x2, .f32⟩
  | .hbm, ⟨8, _⟩ => ⟨S2x2, .f32⟩
  | .hbm, ⟨9, _⟩ => ⟨S2x4, .f32⟩
  | .hbm, ⟨10, _⟩ => ⟨S2x2, .f32⟩
  | .hbm, ⟨11, _⟩ => ⟨S2x4, .f32⟩
  | .hbm, ⟨12, _⟩ => ⟨S4x4, .f32⟩
  | .hbm, ⟨13, _⟩ => ⟨S4x8, .f32⟩
  | .hbm, ⟨14, _⟩ => ⟨S4x4, .f32⟩
  | .hbm, ⟨15, _⟩ => ⟨S4x8, .f32⟩
  | .hbm, ⟨16, _⟩ => ⟨S8x8, .f32⟩
  | .hbm, ⟨17, _⟩ => ⟨S8x16, .f32⟩
  | .hbm, ⟨18, _⟩ => ⟨S8x8, .f32⟩
  | .hbm, ⟨19, _⟩ => ⟨S8x16, .f32⟩
  | .hbm, ⟨20, _⟩ => ⟨S16x16, .f32⟩
  | .hbm, ⟨21, _⟩ => ⟨S16x32, .f32⟩
  | .hbm, ⟨22, _⟩ => ⟨S16x16, .f32⟩
  | .hbm, ⟨23, _⟩ => ⟨S16x32, .f32⟩
  | .hbm, ⟨24, _⟩ => ⟨S32x32, .f32⟩
  | .hbm, ⟨25, _⟩ => ⟨S32x64, .f32⟩
  | .hbm, ⟨26, _⟩ => ⟨S32x32, .f32⟩
  | .hbm, ⟨27, _⟩ => ⟨S32x64, .f32⟩
  | .hbm, ⟨28, _⟩ => ⟨S64x64, .f32⟩
  | .hbm, ⟨29, _⟩ => ⟨S64x128, .f32⟩
  | .hbm, ⟨30, _⟩ => ⟨S64x64, .f32⟩
  | .hbm, ⟨31, _⟩ => ⟨S64x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S192x1x4096, .f32⟩
  | .hbm, ⟨37, _⟩ => ⟨S192x1x32x128, .f32⟩
  | .hbm, ⟨38, _⟩ => ⟨S192x1x32x128, .f32⟩
  | .hbm, ⟨39, _⟩ => ⟨S192x4096, .f32⟩
  | .hbm, ⟨40, _⟩ => ⟨S192x4096, .bf16⟩
  | .hbm, ⟨41, _⟩ => ⟨S2048x7168, .i8⟩
  | .hbm, ⟨42, _⟩ => ⟨S2048x7168, .i32⟩
  | .hbm, ⟨43, _⟩ => ⟨S_, .i32⟩
  | .hbm, ⟨44, _⟩ => ⟨S2048x7168, .i32⟩
  | .hbm, ⟨45, _⟩ => ⟨S2048x7168, .i32⟩
  | .hbm, ⟨46, _⟩ => ⟨S_, .i32⟩
  | .hbm, ⟨47, _⟩ => ⟨S2048x7168, .i32⟩
  | .hbm, ⟨48, _⟩ => ⟨S2048x7168, .i32⟩
  | .hbm, ⟨49, _⟩ => ⟨S_, .i32⟩
  | .hbm, ⟨50, _⟩ => ⟨S2048x7168, .i32⟩
  | .hbm, ⟨51, _⟩ => ⟨S2048x7168, .i32⟩
  | .hbm, ⟨52, _⟩ => ⟨S4096x7168, .i32⟩
  | .hbm, ⟨53, _⟩ => ⟨S4096x7168, .bf16⟩
  | .hbm, ⟨54, _⟩ => ⟨S32x128x7168, .bf16⟩
  | .hbm, ⟨55, _⟩ => ⟨S32x1x7168, .bf16⟩
  | .hbm, ⟨56, _⟩ => ⟨S32x128x7168, .bf16⟩
  | .hbm, ⟨57, _⟩ => ⟨S32x128x7168, .bf16⟩
  | .hbm, ⟨58, _⟩ => ⟨S4096x7168, .bf16⟩
  | .hbm, ⟨59, _⟩ => ⟨S192x7168, .f32⟩
  | .hbm, ⟨60, _⟩ => ⟨S192x7168, .bf16⟩
  | _, _ => ⟨S192x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_c : Ref sig .tc := ⟨.hbm, 43, rfl⟩
abbrev main_v38 : Ref sig .tc := ⟨.hbm, 44, rfl⟩
abbrev main_v39 : Ref sig .tc := ⟨.hbm, 45, rfl⟩
abbrev main_c_1 : Ref sig .tc := ⟨.hbm, 46, rfl⟩
abbrev main_v40 : Ref sig .tc := ⟨.hbm, 47, rfl⟩
abbrev main_v41 : Ref sig .tc := ⟨.hbm, 48, rfl⟩
abbrev main_c_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩

abbrev nD : Nat := 1
abbrev τ : Topo := Topo.v7x

variable {F : FTy → Type} [FloatOps F]
-- ==== Proof.Blocks.lean ====
/-
  The vocabulary of the kernel's body: what one rotation of a pair of 128-column groups computes, what one
  accumulation step computes, the accumulator of one 256-column tile after all sixteen steps, and the lists of
  stores the body leaves in its scratch and in its output block.
-/
module

public import proofs.«01_k».proof.Proof.Gen.KernelIdeal.Skeleton
public import Idealize.ShloMosaic.Lib.Pipeline.ValueKit

@[expose] public section

set_option maxRecDepth 16384

noncomputable section

namespace Cert.KernelIdeal.Blocks

open Cert.KernelIdeal Cert.KernelIdeal.Gen Idealize.ShloMosaic Idealize.ShloMosaic.TcCoe Idealize.SL.Sem

variable {F : FTy → Type} [FloatOps F]

/-- One rotation: a group of the low half of the columns beside its partner in the high half, through the pair
    matrix, scaled. -/
def rotBlock (xl xh : Vec F S192x128 .bf16) : FVec F S192x256 .bf16 :=
  k0_pay6 k0_pay2 k0_pay3 xl xh

/-- The codes of one packed block, as sixteen-bit integers: each byte's low nibble in an even row, its high nibble in
    the odd row below it, both sign-extended. -/
def codeRows (w : Vec F S128x256 .i8) : IVec S256x256 16 :=
  bitcast S256x256 16
    (ori
      (andi (shrsi (shli (extui 32 w natLt_8_32) (broadcast S128x256 28#32)) (broadcast S128x256 28#32))
        (broadcast S128x256 65535#32))
      (shli (shrsi (shli (extui 32 w natLt_8_32) (broadcast S128x256 24#32)) (broadcast S128x256 28#32))
        (broadcast S128x256 16#32)))
    bitcasts_S128x256_w32_S256x256_w16

/-- The scales of one packed block: the low group's row in the even rows, the high group's in the odd rows. -/
def scaleRows (lo hi : Vec F S1x256 .bf16) : FVec F S256x256 .bf16 :=
  interleaveRows S256x256
    (broadcastTo S128x256 (shapeCast S1x256 lo shapeCasts_S1x256_S1x256) broadcasts_S1x256_S128x256)
    (broadcastTo S128x256 (shapeCast S1x256 hi shapeCasts_S1x256_S1x256) broadcasts_S1x256_S128x256)
    bitcasts_S256x256_w16_S128x256_w32

/-- One accumulation step: the rotated block times the dequantized block, added to what is already there. -/
def accStep (acc : FVec F S192x256 .f32) (w : Vec F S128x256 .i8) (lo hi : Vec F S1x256 .bf16)
    (xr : Vec F S192x256 .bf16) : FVec F S192x256 .f32 :=
  addf acc (matmul dot_S192x256_S256x256_S192x256_1_0_0_1_n_n none xr
    (mulf (sitofp .bf16 (codeRows w)) (scaleRows lo hi)) (constant S192x256 .f32 0x00000000#32))

/-- The accumulator of column tile `n` after its first `g` steps: step `g` takes rotated block `g`, packed rows
    `128 g …`, and the scale rows `g` and `16 + g`. -/
def tileAcc (xr : ℕ → Vec F S192x256 .bf16) (w : Vec F S2048x1024 .i8) (s : Vec F S32x1024 .bf16) (n : Fin 4) :
    (g : ℕ) → g ≤ 16 → FVec F S192x256 .f32
  | 0, _ => broadcast S192x256 (Scalar.ofBits .f32 0x00000000#32)
  | g + 1, h => accStep (tileAcc xr w s n g (Nat.le_of_succ_le h))
      (View.ld w (Rect.unit ![128 * g, 256 * n.val] ![128, 256] (fun a => match a with
        | ⟨0, _⟩ => show 128 * g + 128 ≤ 2048 by omega
        | ⟨1, _⟩ => show 256 * n.val + 256 ≤ 1024 by omega)))
      (View.ld s (Rect.unit ![g, 256 * n.val] ![1, 256] (fun a => match a with
        | ⟨0, _⟩ => show g + 1 ≤ 32 by omega
        | ⟨1, _⟩ => show 256 * n.val + 256 ≤ 1024 by omega)))
      (View.ld s (Rect.unit ![16 + g, 256 * n.val] ![1, 256] (fun a => match a with
        | ⟨0, _⟩ => show 16 + g + 1 ≤ 32 by omega
        | ⟨1, _⟩ => show 256 * n.val + 256 ≤ 1024 by omega)))
      (xr g)

/-- The box of the 256 columns from `256 g` of the scratch. -/
abbrev scratchBox (g : Fin 16) : Rect S192x4096 := Rect.unit ![0, 256 * g.val] ![192, 256] (fun a => match a with
  | ⟨0, _⟩ => show 0 + 192 ≤ 192 by omega
  | ⟨1, _⟩ => show 256 * g.val + 256 ≤ 4096 by omega)

/-- The box of the 256 columns from `256 n` of the output block. -/
abbrev outBox (n : Fin 4) : Rect S192x1024 := Rect.unit ![0, 256 * n.val] ![192, 256] (fun a => match a with
  | ⟨0, _⟩ => show 0 + 192 ≤ 192 by omega
  | ⟨1, _⟩ => show 256 * n.val + 256 ≤ 1024 by omega)

/-- Rotated block `g` of the block `x`: columns `128 g …` beside columns `2048 + 128 g …`. -/
def rotOf (x : Vec F S192x4096 .bf16) (g : Fin 16) : FVec F S192x256 .bf16 :=
  rotBlock
    (View.ld x (Rect.unit ![0, 128 * g.val] ![192, 128] (fun a => match a with
      | ⟨0, _⟩ => show 0 + 192 ≤ 192 by omega
      | ⟨1, _⟩ => show 128 * g.val + 128 ≤ 4096 by omega)))
    (View.ld x (Rect.unit ![0, 2048 + 128 * g.val] ![192, 128] (fun a => match a with
      | ⟨0, _⟩ => show 0 + 192 ≤ 192 by omega
      | ⟨1, _⟩ => show 2048 + 128 * g.val + 128 ≤ 4096 by omega)))

/-- The sixteen stores of the first point into the scratch, last first: rotated block `g` into columns `256 g …`. -/
def scratchPieces (x : Vec F S192x4096 .bf16) : List (View.Piece (Elt F) S192x4096 .bf16) :=
  List.ofFn fun k : Fin 16 => ⟨scratchBox k.rev, rotOf x k.rev⟩

/-- The four stores of a point into the output block, last first: tile `n`'s accumulator, rounded, into columns
    `256 n …`. -/
def outPieces (xr : ℕ → Vec F S192x256 .bf16) (w : Vec F S2048x1024 .i8) (s : Vec F S32x1024 .bf16) :
    List (View.Piece (Elt F) S192x1024 .bf16) :=
  List.ofFn fun k : Fin 4 => ⟨outBox k.rev, truncf .bf16 (tileAcc xr w s k.rev 16 le_rfl) bitsLt_bf16_f32⟩

end Cert.KernelIdeal.Blocks

end
-- ==== Proof.Cases.lean ====
/-
  The stores the body's two cases leave, in the vocabulary of Blocks.lean: the first point rotates its input block
  into the scratch and reads it back; every other point reads the scratch as the point before left it. Both then
  store the four tiles of the output block.
-/
module

public import proofs.«01_k».proof.Proof.Gen.KernelIdeal.Frame
public import proofs.«01_k».proof.Proof.Blocks

@[expose] public section

set_option maxRecDepth 16384

noncomputable section

namespace Cert.KernelIdeal.Cases

open Cert.KernelIdeal Cert.KernelIdeal.Gen Cert.KernelIdeal.Blocks
open Idealize.ShloMosaic Idealize.ShloMosaic.TcCoe Idealize.ShloMosaic.Tactic Idealize.SL.Sem

variable {F : FTy → Type} [FloatOps F]

/-- The block of the scratch contents `X` that step `g` reads. -/
def scratchBlock (X : Vec F S192x4096 .bf16) (g : ℕ) : Vec F S192x256 .bf16 :=
  if h : g < 16 then View.ld X (scratchBox ⟨g, h⟩) else View.ld X (scratchBox 0)

/-- The block step `g` reads back of the scratch stores `L`. -/
def readBack {sig' : RefSig} {κ : Kind} {sp : Space} (v : View sig' κ sp S192x4096 .bf16)
    (L : List (View.Piece (Elt F) S192x4096 .bf16)) (g : ℕ) : Vec F S192x256 .bf16 :=
  if h : g < 16 then v.readCov L (scratchBox ⟨g, h⟩).toLoadRect else v.readCov L (scratchBox 0).toLoadRect

variable (c : Dev nD) (i : grid0.Coords) (arg1 : Memref sig .tc .vmem S192x4096 .bf16) (harg1 : arg1.IsWhole)
  (arg2 : Memref sig .tc .vmem S2048x1024 .i8) (harg2 : arg2.IsWhole) (arg3 : Memref sig .tc .vmem S32x1024 .bf16)
  (harg3 : arg3.IsWhole) (arg4 : Memref sig .tc .vmem S192x1024 .bf16) (harg4 : arg4.IsWhole)
  (arg5 : Memref sig .tc .vmem S192x4096 .bf16) (harg5 : arg5.IsWhole)
  (x0 : Vec F S192x4096 .bf16) (x1 : Vec F S2048x1024 .i8) (x2 : Vec F S32x1024 .bf16) (xs0 : Vec F S192x4096 .bf16)

/-- The first point's stores into the scratch are the sixteen rotated blocks. -/
theorem scratch_A (hc0 : cond0_0 i) :
    (kernelRun0_A c i arg1 harg1 arg2 harg2 arg3 harg3 arg4 harg4 arg5 harg5 hc0 x0 x1 x2).2.1 = scratchPieces x0 := by
  have h : (kernelRun0_A c i arg1 harg1 arg2 harg2 arg3 harg3 arg4 harg4 arg5 harg5 hc0 x0 x1 x2).2.1
      = scratchPieces (arg1.view.read (Elt F) (harg1.unread x0)) := by
    sl_kernel_rfl
  rw [h, harg1.read_unread]

/-- The first point's stores into its output block are the four tiles over the scratch read back. -/
theorem out_A (hc0 : cond0_0 i) :
    (kernelRun0_A c i arg1 harg1 arg2 harg2 arg3 harg3 arg4 harg4 arg5 harg5 hc0 x0 x1 x2).1
      = outPieces (readBack arg5.view (scratchPieces x0)) x1 x2 := by
  have h : (kernelRun0_A c i arg1 harg1 arg2 harg2 arg3 harg3 arg4 harg4 arg5 harg5 hc0 x0 x1 x2).1
      = outPieces (readBack arg5.view (scratchPieces (arg1.view.read (Elt F) (harg1.unread x0))))
          (arg2.view.read (Elt F) (harg2.unread x1)) (arg3.view.read (Elt F) (harg3.unread x2)) := by
    sl_kernel_rfl
  rw [h, harg1.read_unread, harg2.read_unread, harg3.read_unread]

/-- Another point's stores into its output block are the four tiles over the scratch it found. -/
theorem out_B (hc0 : ¬ cond0_0 i) :
    (kernelRun0_B c i arg1 harg1 arg2 harg2 arg3 harg3 arg4 harg4 arg5 harg5 hc0 x0 x1 x2 xs0).1
      = outPieces (scratchBlock xs0) x1 x2 := by
  have h : (kernelRun0_B c i arg1 harg1 arg2 harg2 arg3 harg3 arg4 harg4 arg5 harg5 hc0 x0 x1 x2 xs0).1
      = outPieces (scratchBlock (arg5.view.read (Elt F) (harg5.unread xs0)))
          (arg2.view.read (Elt F) (harg2.unread x1)) (arg3.view.read (Elt F) (harg3.unread x2)) := by
    sl_kernel_rfl
  rw [h, harg2.read_unread, harg3.read_unread, harg5.read_unread]

end Cert.KernelIdeal.Cases

end
-- ==== Proof.Spec.lean ====
/-
  The mathematics both programs are compared with: the sign of an entry of the 128-point Hadamard matrix, the sign-extended
  four-bit codes, the rotated input, and the product with the dequantized weight.
-/
module

public import Idealize.ShloMosaic.Lib.Pipeline.ValueKit
public import Idealize.ShloMosaic.Lib.Pointwise

@[expose] public section

noncomputable section

namespace Cert.Spec

open Idealize.ShloMosaic

/-- Whether entry `(i, j)` of the Hadamard matrix of `2 ^ k` points is negative: the parity of the number of bits below
    bit `k` that `i` and `j` share. -/
def flips : ℕ → ℕ → ℕ → Bool
  | 0, _, _ => false
  | k + 1, i, j => ((i.testBit k && j.testBit k) ^^ flips k i j)

/-- The sign of an entry of the matrix of `2 ^ k` points. -/
def sgn (k i j : ℕ) : EReal := if flips k i j then -1 else 1

/-- The single-precision number nearest to `128 ^ (-1/2)`, by its pattern. -/
def root : EReal := Ideal.ofBits .f32 0x3DB504F3#32

/-- An entry of the normalized matrix of 128 points. -/
def hEntry (i j : ℕ) : EReal := sgn 7 i j * root

/-- Half `p` of a byte, as a signed four-bit number: the low nibble for 0, the high nibble for 1. -/
def nibble (p : ℕ) (b : BitVec 8) : ℤ := (b.extractLsb' (4 * p) 4).toInt

/-- The rotated input at row `b`, column `k`: the 128 columns of `k`'s group against column `k % 128` of the normalized
    matrix. -/
def rotated (X : Fin 192 → Fin 4096 → EReal) (b : Fin 192) (k : Fin 4096) : EReal :=
  ∑ i : Fin 128, X b ⟨k.val / 128 * 128 + i.val, by omega⟩ * hEntry i.val (k.val % 128)

/-- The code of weight row `k` in a column whose packed bytes are `W`: rows below 2048 are the low nibbles. -/
def code (W : Fin 2048 → BitVec 8) (k : Fin 4096) : EReal :=
  ((nibble (k.val / 2048) (W ⟨k.val % 2048, Nat.mod_lt _ (by decide)⟩) : ℝ) : EReal)

/-- One result: the rotated row against a column of the dequantized weight, whose scale is one for 128 rows. -/
def result (X : Fin 192 → Fin 4096 → EReal) (W : Fin 2048 → BitVec 8) (S : Fin 32 → EReal) (b : Fin 192) : EReal :=
  ∑ k : Fin 4096, rotated X b k * (code W k * S ⟨k.val / 128, by omega⟩)

/-- The result array over the three argument arrays: the input (its unit axis kept), the packed weight and the scales. -/
def resultAt (x : (⟨3, ![192, 1, 4096]⟩ : Shape).Idx → EReal) (w : (⟨2, ![2048, 7168]⟩ : Shape).Idx → BitVec 8)
    (s : (⟨2, ![32, 7168]⟩ : Shape).Idx → EReal) (i : (⟨2, ![192, 7168]⟩ : Shape).Idx) : EReal :=
  result (fun b k => x (ix3 b 0 k)) (fun k => w (ix2 k (i 1))) (fun g => s (ix2 g (i 1))) (i 0)

/-- The sign depends on the bits the two indices share. -/
theorem flips_and (k i j : ℕ) : flips k i j = flips k (i &&& j) (i &&& j) := by
  induction k with
  | zero => rfl
  | succ k ih => simp only [flips, Nat.testBit_and, Bool.and_self]; rw [ih]

/-- The sign of the matrix of `2 ^ k` points does not read bit `k`. -/
theorem flips_add_left (k : ℕ) : ∀ l ≤ k, ∀ i j : ℕ, flips l (2 ^ k + i) j = flips l i j := by
  intro l
  induction l with
  | zero => intro _ i j; rfl
  | succ l ih =>
    intro hl i j
    simp only [flips, Nat.testBit_two_pow_add_gt (show l < k by omega), ih (by omega)]

/-- The sign does not depend on the order of the indices. -/
theorem flips_comm (k i j : ℕ) : flips k i j = flips k j i := by
  rw [flips_and k i j, flips_and k j i, Nat.and_comm]

/-- The doubling of the matrix: four copies of the one of `2 ^ k` points, the lower right one negated. -/
theorem sgn_succ (k i j : ℕ) (hi : i < 2 ^ (k + 1)) (hj : j < 2 ^ (k + 1)) :
    sgn (k + 1) i j = if i < 2 ^ k then (if j < 2 ^ k then sgn k i j else sgn k i (j - 2 ^ k))
      else (if j < 2 ^ k then sgn k (i - 2 ^ k) j else - sgn k (i - 2 ^ k) (j - 2 ^ k)) := by
  have low : ∀ n : ℕ, n < 2 ^ k → n.testBit k = false := fun n h => Nat.testBit_lt_two_pow h
  have high : ∀ n : ℕ, n < 2 ^ (k + 1) → ¬ n < 2 ^ k → ∃ r, r < 2 ^ k ∧ n = 2 ^ k + r := fun n h h' =>
    ⟨n - 2 ^ k, by rw [pow_succ] at h; omega, by omega⟩
  split
  next h =>
    split
    next h' => simp only [sgn, flips, low i h, Bool.false_and, Bool.false_xor]
    next h' =>
      obtain ⟨r, hr, rfl⟩ := high j hj h'
      simp only [sgn, flips, low i h, Bool.false_and, Bool.false_xor, Nat.add_sub_cancel_left]
      rw [flips_comm k i, flips_add_left k k le_rfl, flips_comm k r]
  next h =>
    obtain ⟨q, hq, rfl⟩ := high i hi h
    split
    next h' =>
      simp only [sgn, flips, low j h', Bool.and_false, Bool.false_xor, Nat.add_sub_cancel_left,
        flips_add_left k k le_rfl]
    next h' =>
      obtain ⟨r, hr, rfl⟩ := high j hj h'
      have e : flips k (2 ^ k + q) (2 ^ k + r) = flips k q r := by
        rw [flips_add_left k k le_rfl, flips_comm k q, flips_add_left k k le_rfl, flips_comm k r]
      simp only [sgn, flips, Nat.testBit_two_pow_add_eq, low q hq, low r hr, e, Nat.add_sub_cancel_left, Bool.not_false,
        Bool.and_self, Bool.true_xor]
      cases flips k q r <;> simp

/-- A finite nonnegative factor distributes over a sum of extended reals. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.2 ha) (EReal.coe_ne_top a), ih]

end Cert.Spec

end
-- ==== Proof.Accumulate.lean ====
/-
  What the accumulator of one tile holds over the extended reals: each of its sixteen steps adds the product of a
  rotated block with the dequantized rows of one packed block.
-/
module

public import proofs.«01_k».proof.Proof.Blocks
public import proofs.«01_k».proof.Proof.Spec
public import Idealize.ShloMosaic.Lib.BitcastPair

@[expose] public section

set_option maxRecDepth 16384

noncomputable section

namespace Cert.KernelIdeal.Accumulate

open Cert.KernelIdeal Cert.KernelIdeal.Gen Cert.KernelIdeal.Blocks Cert.Spec
open Idealize.ShloMosaic Idealize.ShloMosaic.TcCoe Idealize.SL.Sem

/-- The word holding a byte's two codes: the low half is the low nibble, the high half the high nibble, each
    sign-extended. -/
theorem word_halves : ∀ b : BitVec 8, ∀ p : Fin 2,
    ((IntOp.ori
      (IntOp.andi (IntOp.shrsi ArithUnit.vector (IntOp.shli ArithUnit.vector (b.setWidth 32) 28#32) 28#32) 65535#32)
      (IntOp.shli ArithUnit.vector
        (IntOp.shrsi ArithUnit.vector (IntOp.shli ArithUnit.vector (b.setWidth 32) 24#32) 28#32) 16#32)).extractLsb'
        (16 * p.val) 16).toInt = nibble p.val b := by
  decide +kernel

/-- A code row: row `r` is half `r % 2` of the packed row `r / 2`. -/
theorem code_apply (w : Vec Ideal S128x256 .i8) (r n : Fin 256) :
    (codeRows w (ix2 r n)).toInt = nibble (r.val % 2) (w (ix2 ⟨r.val / 2, by omega⟩ n)) := by
  rw [codeRows, bitcast_32_16]
  have hrow : S256x256.row (ix2 r n) = r.val := rfl
  have hsrc : ∀ h, (bitcasts_S128x256_w32_S256x256_w16).srcIdx (ix2 r n) (S256x256.row (ix2 r n) / 2) h
      = ix2 ⟨r.val / 2, by omega⟩ n := by
    intro h; funext a; apply Fin.ext; fin_cases a
    · exact Shape.Bitcasts.srcIdx_row _ _ _ _ _ rfl
    · exact Shape.Bitcasts.srcIdx_other _ _ _ _ _ (by decide)
  rw [hsrc, hrow]
  exact word_halves _ ⟨r.val % 2, Nat.mod_lt _ (by decide)⟩

/-- One accumulation step. -/
theorem step_apply (acc : FVec Ideal S192x256 .f32) (w : Vec Ideal S128x256 .i8) (lo hi : Vec Ideal S1x256 .bf16)
    (xr : Vec Ideal S192x256 .bf16) (b : Fin 192) (n : Fin 256) : accStep acc w lo hi xr (ix2 b n)
    = acc (ix2 b n) + ∑ r : Fin 256, xr (ix2 b r) * (((nibble (r.val % 2) (w (ix2 ⟨r.val / 2, by omega⟩ n)) : ℝ) : EReal)
        * (if r.val % 2 = 0 then lo (ix2 0 n) else hi (ix2 0 n))) := by
  pointwise [accStep]
  congr 1
  refine Finset.sum_congr rfl fun r _ => ?_
  rw [← code_apply]
  congr 2
  pointwise [scaleRows]

/-- What step `g` adds to column `n` of the array's tile at row `b`. -/
def term (xr : Vec Ideal S192x256 .bf16) (w : Vec Ideal S2048x1024 .i8) (s : Vec Ideal S32x1024 .bf16) (g : Fin 16)
    (b : Fin 192) (n : Fin 1024) : EReal :=
  ∑ r : Fin 256, xr (ix2 b r) * (((nibble (r.val % 2) (w (ix2 ⟨128 * g.val + r.val / 2, by omega⟩ n)) : ℝ) : EReal)
    * s (ix2 ⟨r.val % 2 * 16 + g.val, by omega⟩ n))

/-- The accumulator of tile `k` after `g` steps is the sum of what they add. -/
theorem tileAcc_apply (xr : ℕ → Vec Ideal S192x256 .bf16) (w : Vec Ideal S2048x1024 .i8) (s : Vec Ideal S32x1024 .bf16)
    (k : Fin 4) (b : Fin 192) (n : Fin 256) : ∀ (g : ℕ) (h : g ≤ 16), tileAcc xr w s k g h (ix2 b n)
    = ∑ q : Fin g, term (xr q.val) w s ⟨q.val, by omega⟩ b ⟨256 * k.val + n.val, by omega⟩ := by
  intro g
  induction g with
  | zero =>
    intro h
    rw [tileAcc, Fin.sum_univ_zero]
    exact Ideal.ofBits_zero_f32
  | succ g ih =>
    intro h
    rw [tileAcc, step_apply, ih, Fin.sum_univ_castSucc (n := g)]
    refine congrArg₂ _ rfl ?_
    rw [term]
    refine Finset.sum_congr rfl fun r _ => ?_
    congr 2
    · rw [View.ld_unit_apply_of w _ _ _ _ (ix2 ⟨128 * g + r.val / 2, by omega⟩ ⟨256 * k.val + n.val, by omega⟩)]
      · rfl
      · intro a; fin_cases a <;> simp
    · rcases Nat.mod_two_eq_zero_or_one r.val with e | e
      · rw [if_pos e, View.ld_unit_apply_of s _ _ _ _ (ix2 ⟨r.val % 2 * 16 + g, by omega⟩ ⟨256 * k.val + n.val, by omega⟩)]
        · rfl
        · intro a; fin_cases a <;> simp [e]
      · rw [if_neg (by omega),
          View.ld_unit_apply_of s _ _ _ _ (ix2 ⟨r.val % 2 * 16 + g, by omega⟩ ⟨256 * k.val + n.val, by omega⟩)]
        · rfl
        · intro a; fin_cases a <;> simp [e]

end Cert.KernelIdeal.Accumulate

end
-- ==== Proof.Body.lean ====
/-
  What the stores of one grid point leave, read at an index: the scratch holds the sixteen rotated blocks side by side,
  and the output block holds the four tiles' accumulators, each column a sum over the sixteen steps.
-/
module

public import proofs.«01_k».proof.Proof.Cases
public import proofs.«01_k».proof.Proof.Accumulate

@[expose] public section

set_option maxRecDepth 16384

noncomputable section

namespace Cert.KernelIdeal.Body

open Cert.KernelIdeal Cert.KernelIdeal.Gen Cert.KernelIdeal.Blocks Cert.KernelIdeal.Cases Cert.KernelIdeal.Accumulate
open Idealize.ShloMosaic Idealize.ShloMosaic.TcCoe Idealize.SL.Sem

/-- The scratch after the first point: column `k` is column `k % 256` of rotated block `k / 256`. -/
def scratchOf (x : Vec Ideal S192x4096 .bf16) : Vec Ideal S192x4096 .bf16 := fun y =>
  rotOf x ⟨(y 1).val / 256, Nat.div_lt_of_lt_mul (y 1).isLt⟩ (ix2 (y 0) ⟨(y 1).val % 256, Nat.mod_lt _ (by decide)⟩)

/-- Column `256 g + n` of the scratch is column `n` of rotated block `g`. -/
theorem scratchOf_box (x : Vec Ideal S192x4096 .bf16) (g : Fin 16) (j : (scratchBox g).shape.Idx) :
    scratchOf x ((scratchBox g).idx j) = rotOf x g j := by
  have h1 : (j 1).val < 256 := (j 1).isLt
  have e1 : (((scratchBox g).idx j) 1).val = 256 * g.val + 1 * (j 1).val := rfl
  have e0 : ((scratchBox g).idx j) 0 = j 0 := Fin.ext (show 0 + 1 * (j 0).val = (j 0).val by omega)
  unfold scratchOf
  congr 1
  · exact Fin.ext (show _ / 256 = g.val by rw [e1]; omega)
  · funext a
    fin_cases a
    · exact e0
    · exact Fin.ext (show _ % 256 = (j 1).val by rw [e1]; omega)

/-- The scratch stores leave `scratchOf`. -/
theorem canon_scratch (x : Vec Ideal S192x4096 .bf16) : View.canon (scratchPieces x) = scratchOf x := by
  funext y
  refine View.canon_apply_of_pieces (scratchOf x) (scratchPieces x) (fun p hp j => ?_) y ?_
  · obtain ⟨k, rfl⟩ := (List.mem_ofFn' _ _).1 hp
    exact (scratchOf_box x k.rev j).symm
  · have h1 : (y 1).val < 4096 := (y 1).isLt
    have h0 : (y 0).val < 192 := (y 0).isLt
    refine ⟨_, (List.mem_ofFn' _ _).2 ⟨(⟨(y 1).val / 256, by omega⟩ : Fin 16).rev, rfl⟩, ?_⟩
    dsimp only
    rw [Fin.rev_rev]
    refine Rect.mem_set_unit.2 fun a => ?_
    fin_cases a
    · exact ⟨Nat.zero_le _, show (y 0).val < 0 + 192 by omega⟩
    · exact ⟨show 256 * ((y 1).val / 256) ≤ (y 1).val by omega, show (y 1).val < 256 * ((y 1).val / 256) + 256 by omega⟩

/-- The block step `g` reads of the scratch is rotated block `g`. -/
theorem scratchBlock_scratchOf (x : Vec Ideal S192x4096 .bf16) (g : Fin 16) :
    scratchBlock (scratchOf x) g.val = rotOf x g := by
  rw [scratchBlock, dif_pos g.isLt]
  exact funext fun j => scratchOf_box x g j

/-- Reading the scratch stores back at the first point is reading `scratchOf`. -/
theorem readBack_scratch {sig' : RefSig} {κ : Kind} {sp : Space} (v : View sig' κ sp S192x4096 .bf16)
    (x : Vec Ideal S192x4096 .bf16) : readBack v (scratchPieces x) = scratchBlock (scratchOf x) := by
  funext g
  unfold readBack scratchBlock
  split
  all_goals rw [View.readCov_eq_canon', canon_scratch]

/-- One point's output block: column `n` at row `b` is the sum of the sixteen steps' terms. -/
def blockOf (x : Vec Ideal S192x4096 .bf16) (w : Vec Ideal S2048x1024 .i8) (s : Vec Ideal S32x1024 .bf16) :
    Vec Ideal S192x1024 .bf16 := fun y => ∑ q : Fin 16, term (rotOf x q) w s q (y 0) (y 1)

/-- Column `256 k + n` of the output block is column `n` of tile `k`'s accumulator. -/
theorem out_box (x : Vec Ideal S192x4096 .bf16) (w : Vec Ideal S2048x1024 .i8) (s : Vec Ideal S32x1024 .bf16) (k : Fin 4)
    (j : S192x256.Idx) :
    tileAcc (scratchBlock (scratchOf x)) w s k 16 le_rfl j = blockOf x w s ((outBox k).idx j) := by
  idx_vars j
  have e : (outBox k).idx (ix2 j0 j1) = ix2 j0 (⟨256 * k.val + j1.val, by omega⟩ : Fin 1024) := by
    funext a
    fin_cases a
    · exact Fin.ext (show 0 + 1 * j0.val = j0.val by omega)
    · exact Fin.ext (show 256 * k.val + 1 * j1.val = 256 * k.val + j1.val by omega)
  rw [e, tileAcc_apply]
  exact Finset.sum_congr rfl fun q _ => by rw [scratchBlock_scratchOf]; rfl

/-- The output stores leave `blockOf`. -/
theorem canon_out (x : Vec Ideal S192x4096 .bf16) (w : Vec Ideal S2048x1024 .i8) (s : Vec Ideal S32x1024 .bf16) :
    View.canon (outPieces (scratchBlock (scratchOf x)) w s) = blockOf x w s := by
  funext y
  refine View.canon_apply_of_pieces (blockOf x w s) _ (fun p hp j => ?_) y ?_
  · obtain ⟨k, rfl⟩ := (List.mem_ofFn' _ _).1 hp
    exact out_box x w s k.rev j
  · have h1 : (y 1).val < 1024 := (y 1).isLt
    have h0 : (y 0).val < 192 := (y 0).isLt
    refine ⟨_, (List.mem_ofFn' _ _).2 ⟨(⟨(y 1).val / 256, by omega⟩ : Fin 4).rev, rfl⟩, ?_⟩
    dsimp only
    rw [Fin.rev_rev]
    refine Rect.mem_set_unit.2 fun a => ?_
    fin_cases a
    · exact ⟨Nat.zero_le _, show (y 0).val < 0 + 192 by omega⟩
    · exact ⟨show 256 * ((y 1).val / 256) ≤ (y 1).val by omega, show (y 1).val < 256 * ((y 1).val / 256) + 256 by omega⟩

variable (c : Dev nD) (i : grid0.Coords) (arg1 : Memref sig .tc .vmem S192x4096 .bf16) (harg1 : arg1.IsWhole)
  (arg2 : Memref sig .tc .vmem S2048x1024 .i8) (harg2 : arg2.IsWhole) (arg3 : Memref sig .tc .vmem S32x1024 .bf16)
  (harg3 : arg3.IsWhole) (arg4 : Memref sig .tc .vmem S192x1024 .bf16) (harg4 : arg4.IsWhole)
  (arg5 : Memref sig .tc .vmem S192x4096 .bf16) (harg5 : arg5.IsWhole)
  (x0 : Vec Ideal S192x4096 .bf16) (x1 : Vec Ideal S2048x1024 .i8) (x2 : Vec Ideal S32x1024 .bf16)

/-- The scratch the first point leaves. -/
theorem sout_A (hc0 : cond0_0 i) :
    sout0_A_0 c i arg1 harg1 arg2 harg2 arg3 harg3 arg4 harg4 arg5 harg5 hc0 x0 x1 x2 = scratchOf x0 := by
  rw [sout0_A_0, View.read_writes_junk_eq_canon, scratch_A, canon_scratch]

/-- The output block the first point leaves. -/
theorem out_A (hc0 : cond0_0 i) :
    out0_A_3 c i arg1 harg1 arg2 harg2 arg3 harg3 arg4 harg4 arg5 harg5 hc0 x0 x1 x2 = blockOf x0 x1 x2 := by
  rw [out0_A_3, View.read_writes_junk_eq_canon, Cases.out_A, readBack_scratch, canon_out]

/-- The output block another point leaves over the first point's scratch. -/
theorem out_B (hc0 : ¬ cond0_0 i) (x : Vec Ideal S192x4096 .bf16) :
    out0_B_3 c i arg1 harg1 arg2 harg2 arg3 harg3 arg4 harg4 arg5 harg5 hc0 x0 x1 x2 (scratchOf x) = blockOf x x1 x2 := by
  rw [out0_B_3, View.read_writes_junk_eq_canon, Cases.out_B, canon_out]

end Cert.KernelIdeal.Body

end
-- ==== Proof.Rotate.lean ====
/-
  What one rotation computes over the extended reals: column `r` of rotated block `g` is the group of parity `r % 2`
  against column `r / 2` of the normalized Hadamard matrix.
-/
module

public import proofs.«01_k».proof.Proof.Blocks
public import proofs.«01_k».proof.Proof.Spec

@[expose] public section

set_option maxRecDepth 16384

noncomputable section

namespace Cert.KernelIdeal.Rotate

open Cert.KernelIdeal Cert.KernelIdeal.Gen Cert.KernelIdeal.Blocks Cert.Spec
open Idealize.ShloMosaic Idealize.ShloMosaic.TcCoe Idealize.SL.Sem

/-- The pattern of one sixteenth. -/
theorem sixteenth : Ideal.ofBits .f32 1031798784#32 = ((1 / 16 : ℝ) : EReal) := by
  simp [Ideal.ofBits, Ideal.ieee, -EReal.coe_mul]; norm_num

/-- The pattern of minus one sixteenth. -/
theorem neg_sixteenth : Ideal.ofBits .f32 3179282432#32 = ((-(1 / 16) : ℝ) : EReal) := by
  simp [Ideal.ofBits, Ideal.ieee, -EReal.coe_mul]; norm_num

/-- The pattern of sixteen. -/
theorem sixteen : Ideal.ofBits .f32 1098907648#32 = ((16 : ℝ) : EReal) := by
  simp [Ideal.ofBits, Ideal.ieee, -EReal.coe_mul]; norm_num

/-- The normalizing factor is a nonnegative real. -/
theorem root_real : ∃ a : ℝ, 0 ≤ a ∧ root = (a : EReal) := by
  refine ⟨11863283 * (2 ^ 27)⁻¹, by positivity, ?_⟩
  simp [root, Ideal.ofBits, Ideal.ieee, -EReal.coe_mul]

/-- The row number of the pair matrix splits into its half and its row in the half. -/
theorem row_bits : ∀ r : Fin 256, IntOp.shrsi ArithUnit.vector (BitVec.ofNat 32 r.val) 7#32 = BitVec.ofNat 32 (r.val / 128)
    ∧ IntOp.andi (BitVec.ofNat 32 r.val) 127#32 = BitVec.ofNat 32 (r.val % 128) := by
  decide +kernel

/-- The column number of the pair matrix splits into its parity and its column in the half. -/
theorem col_bits : ∀ r : Fin 256, IntOp.shrsi ArithUnit.vector (BitVec.ofNat 32 r.val) 1#32 = BitVec.ofNat 32 (r.val / 2)
    ∧ IntOp.andi (BitVec.ofNat 32 r.val) 1#32 = BitVec.ofNat 32 (r.val % 2) := by
  decide +kernel

/-- The two halves of the row and the parity of the column, compared as words. -/
theorem half_eq : ∀ h p : Fin 2, IntOp.cmpi CmpIPredicate.eq (BitVec.ofNat 32 h.val) (BitVec.ofNat 32 p.val)
    = if h.val = p.val then 1 else 0 := by
  decide +kernel

/-- The bits two indices share, as a word. -/
theorem and_bits (i j : ℕ) : IntOp.andi (BitVec.ofNat 32 i) (BitVec.ofNat 32 j) = BitVec.ofNat 32 (i &&& j) := by
  simp [IntOp.andi, BitVec.ofNat_and]

/-- The parity of a word below 128, folded by shifts of four, two and one. -/
theorem fold_bits : ∀ t : Fin 128, IntOp.cmpi CmpIPredicate.eq
    (IntOp.andi
      (IntOp.xori
        (IntOp.xori
          (IntOp.xori (BitVec.ofNat 32 t.val) (IntOp.shrsi ArithUnit.vector (BitVec.ofNat 32 t.val) 4#32))
          (IntOp.shrsi ArithUnit.vector
            (IntOp.xori (BitVec.ofNat 32 t.val) (IntOp.shrsi ArithUnit.vector (BitVec.ofNat 32 t.val) 4#32)) 2#32))
        (IntOp.shrsi ArithUnit.vector
          (IntOp.xori
            (IntOp.xori (BitVec.ofNat 32 t.val) (IntOp.shrsi ArithUnit.vector (BitVec.ofNat 32 t.val) 4#32))
            (IntOp.shrsi ArithUnit.vector
              (IntOp.xori (BitVec.ofNat 32 t.val) (IntOp.shrsi ArithUnit.vector (BitVec.ofNat 32 t.val) 4#32)) 2#32))
          1#32))
      1#32) 0#32 = if flips 7 t.val t.val then 0 else 1 := by
  decide +kernel

/-- An entry of the pair matrix: a sixteenth of the Hadamard sign where the half of the row is the parity of the column,
    zero elsewhere. -/
theorem pair_apply (r j : Fin 256) : k0_pay2 (F := Ideal) (ix2 r j)
    = if r.val / 128 = j.val % 2 then sgn 7 (r.val % 128) (j.val / 2) * ((1 / 16 : ℝ) : EReal) else 0 := by
  pointwise [k0_pay2]
  rw [(row_bits r).1, (row_bits r).2, (col_bits j).1, (col_bits j).2, and_bits,
    fold_bits ⟨(r.val % 128) &&& (j.val / 2), lt_of_le_of_lt Nat.and_le_left (Nat.mod_lt _ (by decide))⟩,
    half_eq ⟨r.val / 128, by omega⟩ ⟨j.val % 2, by omega⟩, sixteenth, neg_sixteenth]
  simp only [← flips_and, sgn]
  by_cases h : r.val / 128 = j.val % 2
  · rw [if_pos h, if_pos h]
    cases flips 7 (r.val % 128) (j.val / 2) <;> simp [Scalar.select]
  · rw [if_neg h, if_neg h]; simp [Scalar.select]

/-- One entry of the pair matrix against the scale: the normalized entry. -/
theorem entry_scale (x : EReal) (i j : ℕ) (a : ℝ) (h : root = (a : EReal)) :
    x * (sgn 7 i j * ((1 / 16 : ℝ) : EReal)) * ((a * 16 : ℝ) : EReal) = x * hEntry i j := by
  rw [hEntry, h, mul_assoc x, mul_assoc (sgn 7 i j), ← EReal.coe_mul]
  congr 4; ring

/-- One rotated block at row `b`, column `r`. -/
theorem rot_apply (xl xh : Vec Ideal S192x128 .bf16) (b : Fin 192) (r : Fin 256) : rotBlock xl xh (ix2 b r)
    = ∑ i : Fin 128, (if r.val % 2 = 0 then xl (ix2 b i) else xh (ix2 b i)) * hEntry i.val (r.val / 2) := by
  obtain ⟨a, ha, hr⟩ := root_real
  have hs : k0_pay3 (F := Ideal) = ((a * 16 : ℝ) : EReal) := by
    rw [EReal.coe_mul, ← hr, ← sixteen]; rfl
  pointwise [rotBlock, k0_pay6]
  rw [hs]
  simp only [pair_apply]
  have lo : ∀ i : Fin 128, i.val / 128 = 0 ∧ i.val % 128 = i.val := fun i => ⟨by omega, by omega⟩
  have hi : ∀ i : Fin 128, (128 + i.val) / 128 = 1 ∧ (128 + i.val) % 128 = i.val := fun i => ⟨by omega, by omega⟩
  simp only [(lo _).1, (lo _).2, (hi _).1, (hi _).2]
  rcases Nat.mod_two_eq_zero_or_one r.val with h | h
  · simp only [h, if_true, if_neg (show ¬ (1 : ℕ) = 0 by decide), mul_zero, Finset.sum_const_zero, add_zero]
    rw [sum_mul_coe _ _ _ (by positivity)]
    exact Finset.sum_congr rfl fun i _ => entry_scale _ _ _ _ hr
  · simp only [h, if_true, if_neg (show ¬ (0 : ℕ) = 1 by decide), if_neg (show ¬ (1 : ℕ) = 0 by decide), mul_zero,
      Finset.sum_const_zero, zero_add]
    rw [sum_mul_coe _ _ _ (by positivity)]
    exact Finset.sum_congr rfl fun i _ => entry_scale _ _ _ _ hr

/-- Rotated block `g` of the input block `x`: column `r` reads the group of 128 columns at `(r % 2) * 2048 + 128 g`. -/
theorem rotOf_apply (x : Vec Ideal S192x4096 .bf16) (g : Fin 16) (b : Fin 192) (r : Fin 256) : rotOf x g (ix2 b r)
    = ∑ i : Fin 128, x (ix2 b ⟨r.val % 2 * 2048 + 128 * g.val + i.val, by omega⟩) * hEntry i.val (r.val / 2) := by
  rw [rotOf, rot_apply]
  refine Finset.sum_congr rfl fun i _ => ?_
  congr 1
  rcases Nat.mod_two_eq_zero_or_one r.val with h | h
  · rw [if_pos h, View.ld_unit_apply_of x _ _ _ _ (ix2 b ⟨r.val % 2 * 2048 + 128 * g.val + i.val, by omega⟩)]
    intro a; fin_cases a <;> simp [h]
  · rw [if_neg (by omega), View.ld_unit_apply_of x _ _ _ _ (ix2 b ⟨r.val % 2 * 2048 + 128 * g.val + i.val, by omega⟩)]
    intro a; fin_cases a <;> simp [h]

end Cert.KernelIdeal.Rotate

end
-- ==== Proof.Steps.lean ====
/-
  The kernel's order of the weight's rows: step `q` takes, for each of 128 packed rows, a low-nibble row and a high-nibble
  row next to each other. Summed over the steps this is the sum over all 4096 rows.
-/
module

public import proofs.«01_k».proof.Proof.Spec

@[expose] public section

noncomputable section

namespace Cert.Spec

/-- The digits of a weight row: its half, its group of 128 in the half, its place in the group. -/
theorem digits (p q u : ℕ) (hp : p < 2) (hq : q < 16) (hu : u < 128) :
    (p * 2048 + 128 * q + u) / 2048 = p ∧ (p * 2048 + 128 * q + u) % 2048 = 128 * q + u
      ∧ (p * 2048 + 128 * q + u) % 128 = u ∧ (p * 2048 + 128 * q + u) / 128 = p * 16 + q := by
  interval_cases p <;> omega

/-- The weight row of step `q`'s row `r`, and back. -/
def rowEquiv : Fin 16 × Fin 256 ≃ Fin 4096 where
  toFun p := ⟨p.2.val % 2 * 2048 + 128 * p.1.val + p.2.val / 2, by omega⟩
  invFun k := (⟨k.val % 2048 / 128, by omega⟩, ⟨k.val % 128 * 2 + k.val / 2048, by omega⟩)
  left_inv p := by
    obtain ⟨q, r⟩ := p
    obtain ⟨h1, h2, h3, -⟩ := digits (r.val % 2) q.val (r.val / 2) (by omega) (by omega) (by omega)
    refine Prod.ext (Fin.ext ?_) (Fin.ext ?_)
    · dsimp only; rw [h2]; omega
    · dsimp only; rw [h1, h3]; omega
  right_inv k := by
    refine Fin.ext ?_
    have h1 : (k.val % 128 * 2 + k.val / 2048) / 2 = k.val % 128 := by omega
    have h2 : (k.val % 128 * 2 + k.val / 2048) % 2 = k.val / 2048 := by omega
    have h3 : k.val % 2048 % 128 = k.val % 128 := Nat.mod_mod_of_dvd _ (by decide)
    dsimp only
    rw [h1, h2]
    omega

/-- One result as the kernel's sixteen steps sum it. -/
theorem result_eq_steps (X : Fin 192 → Fin 4096 → EReal) (W : Fin 2048 → BitVec 8) (S : Fin 32 → EReal) (b : Fin 192) :
    result X W S b = ∑ q : Fin 16, ∑ r : Fin 256,
      (∑ i : Fin 128, X b ⟨r.val % 2 * 2048 + 128 * q.val + i.val, by omega⟩ * hEntry i.val (r.val / 2))
        * (((nibble (r.val % 2) (W ⟨128 * q.val + r.val / 2, by omega⟩) : ℝ) : EReal)
          * S ⟨r.val % 2 * 16 + q.val, by omega⟩) := by
  rw [result, ← Equiv.sum_comp rowEquiv, Fintype.sum_prod_type]
  refine Finset.sum_congr rfl fun q _ => Finset.sum_congr rfl fun r _ => ?_
  obtain ⟨hp, hk, hj, hg⟩ := digits (r.val % 2) q.val (r.val / 2) (by omega) (by omega) (by omega)
  have e : (rowEquiv (q, r)).val = r.val % 2 * 2048 + 128 * q.val + r.val / 2 := rfl
  unfold rotated code
  simp only [e, hg, hj, hp, hk]
  congr 1
  refine Finset.sum_congr rfl fun i _ => ?_
  congr 3
  omega

end Cert.Spec

end
-- ==== Proof.Array.lean ====
/-
  What the kernel's result array holds: at row `b`, column `n`, the specification's result over the launched arguments.
-/
module

public import proofs.«01_k».proof.Proof.Gen.KernelIdeal.Value
public import proofs.«01_k».proof.Proof.Body
public import proofs.«01_k».proof.Proof.Rotate
public import proofs.«01_k».proof.Proof.Steps
public import Idealize.ShloMosaic.Lib.Claim

@[expose] public section

set_option maxRecDepth 16384

noncomputable section

namespace Cert.KernelIdeal.Array

open Cert.KernelIdeal Cert.KernelIdeal.Gen Cert.KernelIdeal.Body Cert.KernelIdeal.Accumulate
open Idealize.ShloMosaic Idealize.ShloMosaic.TcCoe Idealize.SL.Sem
open Idealize.ShloMosaic.Pipeline (Dat)

variable (m : (ℓ : Loc nD τ sig) → Buf (Elt Ideal) ℓ)

/-- The blocks' indices at a point: the input is whole, the others are the point's 1024 columns. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The input block of every point is the input array, its unit axis dropped. -/
theorem iblk0_apply (c : Dev nD) (t : Fin cfg0.N) (b : Fin 192) (k : Fin 4096) :
    iblk m c 0 t (ix2 b k) = m ((c : Thread nD τ).loc main_arg0) (ix3 b 0 k) := by
  have e : iblk m c 0 t (ix2 b k) = V m c main_v0 (ix2 b k) := by
    unfold iblk
    show V m c main_v0 _ = V m c main_v0 _
    congr 1
    blk_ext [idx t]
  rw [e]
  entry_read
  pointwise

/-- The packed block of a point is its 1024 columns of the packed weight. -/
theorem iblk1_apply (c : Dev nD) (t : Fin cfg0.N) (k : Fin 2048) (n : Fin 1024) (h : 1024 * t.val + n.val < 7168) :
    iblk m c 1 t (ix2 k n) = m ((c : Thread nD τ).loc main_arg1) (ix2 k ⟨1024 * t.val + n.val, h⟩) := by
  blk_point [iblk, V, idx t]

/-- The scale block of a point is its 1024 columns of the scales. -/
theorem iblk2_apply (c : Dev nD) (t : Fin cfg0.N) (k : Fin 32) (n : Fin 1024) (h : 1024 * t.val + n.val < 7168) :
    iblk m c 2 t (ix2 k n) = m ((c : Thread nD τ).loc main_arg2) (ix2 k ⟨1024 * t.val + n.val, h⟩) := by
  blk_point [iblk, V, idx t]

/-- The input block is the same at every point. -/
theorem iblk0_eq (c : Dev nD) (t t' : Fin cfg0.N) : iblk m c 0 t = iblk m c 0 t' := by
  funext y
  have ey : y = ix2 (y 0) (y 1) := by funext a; fin_cases a <;> rfl
  rw [ey]
  exact (iblk0_apply m c t _ _).trans (iblk0_apply m c t' _ _).symm

/-- The scratch after every point is the rotated input. -/
theorem scratch_eq (c : Dev nD) (t : Fin cfg0.N) : ∀ (n : ℕ) (hn : n < cfg0.N),
    (outsAt0 m c n hn).2 = scratchOf (iblk m c 0 t) := by
  intro n
  induction n with
  | zero => intro hn; rw [outsAt0_A m c ⟨0, hn⟩ rfl, sout_A, iblk0_eq m c _ t]
  | succ n ih =>
    intro hn
    have hN := lt_of_lt_of_eq hn (show cfg0.N = 7 from N_0)
    rw [outsAt0_B m c ⟨n + 1, hn⟩ (by dsimp only; omega)]
    exact ih _

/-- The output block of every point. -/
theorem out_eq (c : Dev nD) (t : Fin cfg0.N) :
    (outsAt0 m c t.val t.isLt).1 = blockOf (iblk m c 0 t) (iblk m c 1 t) (iblk m c 2 t) := by
  by_cases h0 : t.val % 7 = 0
  · rw [outsAt0_A m c t h0, out_A]
  · rw [outsAt0_B m c t h0, scratch_eq m c t, out_B]

/-- A point's output block at an index is the specification's result at the block's place. -/
theorem point (c : Dev nD) (t : Fin cfg0.N) (b : Fin 192) (n : Fin 1024) (h : 1024 * t.val + n.val < 7168) :
    blockOf (iblk m c 0 t) (iblk m c 1 t) (iblk m c 2 t) (ix2 b n)
      = Spec.resultAt (m ((c : Thread nD τ).loc main_arg0)) (m ((c : Thread nD τ).loc main_arg1))
          (m ((c : Thread nD τ).loc main_arg2)) (ix2 b ⟨1024 * t.val + n.val, h⟩) := by
  refine Eq.trans ?_ (Spec.result_eq_steps _ _ _ _).symm
  refine Finset.sum_congr rfl fun q _ => Finset.sum_congr rfl fun r _ => ?_
  refine congrArg₂ _ ?_ (congrArg₂ _ ?_ ?_)
  · refine (Rotate.rotOf_apply _ q b r).trans (Finset.sum_congr rfl fun i _ => ?_)
    rw [iblk0_apply]; rfl
  · exact congrArg (fun b => ((Spec.nibble (r.val % 2) b : ℝ) : EReal)) (iblk1_apply m c t _ n h)
  · exact iblk2_apply m c t _ n h

/-- The result array after the run. -/
theorem final (c : Dev nD) : (dats m 0 c).arrAt 3 cfg0.N
    = Spec.resultAt (m ((c : Thread nD τ).loc main_arg0)) (m ((c : Thread nD τ).loc main_arg1))
        (m ((c : Thread nD τ).loc main_arg2)) := by
  refine (dats m 0 c).arrAt_eq_of_covers 3 _ (by decide +kernel) (fun t hf y => ?_)
  blk_simp
  rw [after0_3, out_eq]
  idx_vars y
  have h : 1024 * t.val + y1.val < 7168 := by
    have := lt_of_lt_of_eq t.isLt (show cfg0.N = 7 from N_0)
    omega
  refine (point m c t y0 y1 h).trans ?_
  congr 1
  blk_ext [idx t]

end Cert.KernelIdeal.Array

end
-- ==== Proof.Hadamard.lean ====
/-
  The reference's Hadamard matrix, built by seven doublings from the one-by-one matrix, holds the specification's signs;
  scaled, it holds the normalized entries.
-/
module

public import proofs.«01_k».proof.Proof.Gen.ReferenceIdeal.Read
public import proofs.«01_k».proof.Proof.Spec

@[expose] public section

set_option maxRecDepth 16384

noncomputable section

namespace Cert.ReferenceIdeal.Hadamard

open Cert.ReferenceIdeal Cert.ReferenceIdeal.Gen Cert.ReferenceIdeal.Read Cert.Spec
open Idealize.ShloMosaic Idealize.ShloMosaic.TcCoe Idealize.SL.Sem

/-- The shape of `p` rows of `q` numbers. -/
abbrev mat (p q : ℕ) : Shape := ⟨2, ![p, q]⟩

/-- Two matrices side by side, read at an index. -/
theorem beside {n m : ℕ} (hm : m = n + n) (A B : FVec Ideal (mat n n) .f32)
    (h : Shape.Concatenates [mat n n, mat n n] (mat n m) 1) (i : Fin n) (j : Fin m) :
    concatenate (mat n m) 1 [⟨mat n n, A⟩, ⟨mat n n, B⟩] h (ix2 i j)
      = if hj : j.val < n then A (ix2 i ⟨j.val, hj⟩) else B (ix2 i ⟨j.val - n, by omega⟩) := by
  split
  next hj =>
    refine concatenate_pair_apply_left (t := mat n m) 1 A B h (ix2 i j) rfl (ix2 i ⟨j.val, hj⟩) fun b => ?_
    fin_cases b <;> rfl
  next hj =>
    refine concatenate_pair_apply_right (t := mat n m) 1 A B h (ix2 i j) rfl rfl (ix2 i ⟨j.val - n, by omega⟩) (fun b hb => ?_) ?_
    · fin_cases b
      · rfl
      · exact absurd rfl hb
    · exact Nat.sub_add_cancel (Nat.le_of_not_lt hj)

/-- Two matrices one above the other, read at an index. -/
theorem above {n m : ℕ} (hm : m = n + n) (A B : FVec Ideal (mat n m) .f32)
    (h : Shape.Concatenates [mat n m, mat n m] (mat m m) 0) (i j : Fin m) :
    concatenate (mat m m) 0 [⟨mat n m, A⟩, ⟨mat n m, B⟩] h (ix2 i j)
      = if hi : i.val < n then A (ix2 ⟨i.val, hi⟩ j) else B (ix2 ⟨i.val - n, by omega⟩ j) := by
  split
  next hi =>
    refine concatenate_pair_apply_left (t := mat m m) 0 A B h (ix2 i j) rfl (ix2 ⟨i.val, hi⟩ j) fun b => ?_
    fin_cases b <;> rfl
  next hi =>
    refine concatenate_pair_apply_right (t := mat m m) 0 A B h (ix2 i j) rfl rfl (ix2 ⟨i.val - n, by omega⟩ j) (fun b hb => ?_) ?_
    · fin_cases b
      · exact absurd rfl hb
      · rfl
    · exact Nat.sub_add_cancel (Nat.le_of_not_lt hi)

/-- One doubling: four copies of a matrix holding the signs of `2 ^ k` points, the lower right negated, hold the signs of
    `2 ^ (k + 1)` points. -/
theorem doubled (k : ℕ) {n m : ℕ} (hn : n = 2 ^ k) (hm : m = n + n) (H : FVec Ideal (mat n n) .f32)
    (hH : ∀ i j : Fin n, H (ix2 i j) = sgn k i.val j.val) (h1 : Shape.Concatenates [mat n n, mat n n] (mat n m) 1)
    (h0 : Shape.Concatenates [mat n m, mat n m] (mat m m) 0) (i j : Fin m) :
    concatenate (mat m m) 0 [⟨mat n m, concatenate (mat n m) 1 [⟨mat n n, H⟩, ⟨mat n n, H⟩] h1⟩,
      ⟨mat n m, concatenate (mat n m) 1 [⟨mat n n, H⟩, ⟨mat n n, Host.negf H⟩] h1⟩] h0 (ix2 i j)
      = sgn (k + 1) i.val j.val := by
  have neg : ∀ y, Host.negf H y = - H y := fun _ => rfl
  have hp : m = 2 ^ (k + 1) := by rw [pow_succ]; omega
  rw [sgn_succ k i.val j.val (hp ▸ i.isLt) (hp ▸ j.isLt), ← hn, above hm]
  split <;> rw [beside hm] <;> split <;> simp only [neg, hH]

/-- The one-by-one matrix. -/
theorem one_apply (i j : Fin 1) : val_main_v0 (F := Ideal) (ix2 i j) = sgn 0 i.val j.val := by
  rw [val_main_v0_apply, val_main_cst_apply]
  exact Ideal.ofBits_one_f32

/-- The matrix of 128 points, before it is scaled. -/
theorem signs_apply (i j : Fin 128) : val_main_v28 (F := Ideal) (ix2 i j) = sgn 7 i.val j.val :=
  doubled 6 (n := 64) (by decide) rfl (val_main_v24 (F := Ideal))
    (doubled 5 (n := 32) (by decide) rfl (val_main_v20 (F := Ideal))
      (doubled 4 (n := 16) (by decide) rfl (val_main_v16 (F := Ideal))
        (doubled 3 (n := 8) (by decide) rfl (val_main_v12 (F := Ideal))
          (doubled 2 (n := 4) (by decide) rfl (val_main_v8 (F := Ideal))
            (doubled 1 (n := 2) (by decide) rfl (val_main_v4 (F := Ideal))
              (doubled 0 (n := 1) (by decide) rfl (val_main_v0 (F := Ideal)) one_apply
                concatenates_S1x1_S1x1_S1x2_d1 concatenates_S1x2_S1x2_S2x2_d0)
              concatenates_S2x2_S2x2_S2x4_d1 concatenates_S2x4_S2x4_S4x4_d0)
            concatenates_S4x4_S4x4_S4x8_d1 concatenates_S4x8_S4x8_S8x8_d0)
          concatenates_S8x8_S8x8_S8x16_d1 concatenates_S8x16_S8x16_S16x16_d0)
        concatenates_S16x16_S16x16_S16x32_d1 concatenates_S16x32_S16x32_S32x32_d0)
      concatenates_S32x32_S32x32_S32x64_d1 concatenates_S32x64_S32x64_S64x64_d0)
    concatenates_S64x64_S64x64_S64x128_d1 concatenates_S64x128_S64x128_S128x128_d0 i j

/-- The normalized matrix. -/
theorem entry_apply (i j : Fin 128) : val_main_v30 (F := Ideal) (ix2 i j) = hEntry i.val j.val := by
  rw [val_main_v30_apply, signs_apply]
  rfl

end Cert.ReferenceIdeal.Hadamard

end
-- ==== Proof.Reference.lean ====
/-
  What the reference's result array holds: at row `b`, column `n`, the specification's result over the arguments.
-/
module

public import proofs.«01_k».proof.Proof.Hadamard

@[expose] public section

set_option maxRecDepth 16384

noncomputable section

namespace Cert.ReferenceIdeal.Reference

open Cert.ReferenceIdeal Cert.ReferenceIdeal.Gen Cert.ReferenceIdeal.Read Cert.ReferenceIdeal.Hadamard Cert.Spec
open Idealize.ShloMosaic Idealize.ShloMosaic.TcCoe Idealize.SL.Sem

variable (x : (⟨S192x1x4096, .bf16⟩ : BufTy).Contents (Elt Ideal)) (w : (⟨S2048x7168, .i8⟩ : BufTy).Contents (Elt Ideal))
  (s : (⟨S32x7168, .bf16⟩ : BufTy).Contents (Elt Ideal))

/-- The rotated input. -/
theorem rotated_apply (b : Fin 192) (k : Fin 4096) :
    val_main_v35 (F := Ideal) x (ix2 b k) = rotated (fun b k => x (ix3 b 0 k)) b k := by
  rw [val_main_v35_apply, val_main_v34_apply]
  refine (val_main_v33_apply x _).trans (Finset.sum_congr rfl fun i _ => ?_)
  rw [val_main_v32_apply, val_main_v31_apply]
  refine congrArg₂ _ (congrArg x ?_) ?_
  · funext a
    fin_cases a
    · exact Fin.ext (show ((((b.val * 4096 + k.val) / 4096 * 1 + 0) * 32 + (b.val * 4096 + k.val) / 128 % 32) * 128 + i.val)
        / 4096 = b.val by omega)
    · rfl
    · exact Fin.ext (show ((((b.val * 4096 + k.val) / 4096 * 1 + 0) * 32 + (b.val * 4096 + k.val) / 128 % 32) * 128 + i.val)
        % 4096 = k.val / 128 * 128 + i.val by omega)
  · have e : ridx_main_v33 (idx_main_v34 (ix2 b k)) i = ix2 i ⟨k.val % 128, Nat.mod_lt _ (by decide)⟩ := by
      funext a
      fin_cases a
      · rfl
      · exact Fin.ext (show (b.val * 4096 + k.val) % 128 = k.val % 128 by omega)
    rw [e, entry_apply]

/-- A byte's low nibble as the reference takes it: shifted up and back down. -/
theorem low_nibble : ∀ b : BitVec 8,
    (IntOp.shrsi .host (IntOp.shli .host (b.signExtend 32) 28#32) 28#32).toInt = nibble 0 b := by
  decide +kernel

/-- A byte's high nibble as the reference takes it: shifted down. -/
theorem high_nibble : ∀ b : BitVec 8, (IntOp.shrsi .host (b.signExtend 32) 4#32).toInt = nibble 1 b := by
  decide +kernel

/-- The code of a weight row. -/
theorem code_apply (k : Fin 4096) (n : Fin 7168) :
    val_main_v45 (F := Ideal) w (ix2 k n) = code (fun k => w (ix2 k n)) k := by
  rw [val_main_v45_apply]
  unfold val_main_v44 code
  by_cases h : k.val < 2048
  · rw [concatenate_pair_apply_left (t := S4096x7168) (s₁ := S2048x7168) (s₂ := S2048x7168) 0 _ _ _ (ix2 k n) rfl (ix2 (⟨k.val, h⟩ : Fin 2048) n)
      (fun b => by fin_cases b <;> rfl)]
    have e : (⟨k.val % 2048, Nat.mod_lt _ (by decide)⟩ : Fin 2048) = ⟨k.val, h⟩ := Fin.ext (Nat.mod_eq_of_lt h)
    rw [Nat.div_eq_of_lt h, e]
    exact congrArg (fun z : ℤ => ((z : ℝ) : EReal)) (low_nibble (w (ix2 (⟨k.val, h⟩ : Fin 2048) n)))
  · have hk : k.val - 2048 < 2048 := by omega
    rw [concatenate_pair_apply_right (t := S4096x7168) (s₁ := S2048x7168) (s₂ := S2048x7168) 0 _ _ _ (ix2 k n) rfl rfl (ix2 (⟨k.val - 2048, hk⟩ : Fin 2048) n)
      (fun b hb => by
        fin_cases b
        · exact absurd rfl hb
        · rfl)
      (Nat.sub_add_cancel (Nat.le_of_not_lt h))]
    have e : (⟨k.val % 2048, Nat.mod_lt _ (by decide)⟩ : Fin 2048) = ⟨k.val - 2048, hk⟩ := Fin.ext (by dsimp only; omega)
    rw [show k.val / 2048 = 1 by omega, e]
    exact congrArg (fun z : ℤ => ((z : ℝ) : EReal)) (high_nibble (w (ix2 (⟨k.val - 2048, hk⟩ : Fin 2048) n)))

/-- The dequantized weight. -/
theorem weight_apply (k : Fin 4096) (n : Fin 7168) :
    val_main_v50 (F := Ideal) w s (ix2 k n) = code (fun k => w (ix2 k n)) k * s (ix2 ⟨k.val / 128, by omega⟩ n) := by
  rw [val_main_v50_apply, val_main_v49_apply, val_main_v46_apply, val_main_v48_apply, val_main_v47_apply]
  have ek : idx_main_v46 (idx_main_v50 (ix2 k n)) = ix2 k n := by
    funext a
    fin_cases a
    · exact Fin.ext (show (((k.val * 7168 + n.val) / 917504 * 128 + (k.val * 7168 + n.val) / 7168 % 128) * 7168
        + (k.val * 7168 + n.val) % 7168) / 7168 = k.val by omega)
    · exact Fin.ext (show (((k.val * 7168 + n.val) / 917504 * 128 + (k.val * 7168 + n.val) / 7168 % 128) * 7168
        + (k.val * 7168 + n.val) % 7168) % 7168 = n.val by omega)
  have es : idx_main_v47 (idx_main_v48 (idx_main_v50 (ix2 k n))) = ix2 ⟨k.val / 128, by omega⟩ n := by
    funext a
    fin_cases a
    · exact Fin.ext (show (k.val * 7168 + n.val) / 917504 = k.val / 128 by omega)
    · exact Fin.ext (show (k.val * 7168 + n.val) % 7168 = n.val by omega)
  rw [ek, es, code_apply]
  rfl

/-- The result array. -/
theorem result_eq : val_main_v52 (F := Ideal) x w s = resultAt x w s := by
  funext i
  idx_vars i
  rw [val_main_v52_apply]
  unfold resultAt result
  refine (val_main_v51_apply x w s _).trans (Finset.sum_congr rfl fun k _ => ?_)
  have el : lidx_main_v51 (ix2 i0 i1) k = ix2 i0 k := by funext a; fin_cases a <;> rfl
  have er : ridx_main_v51 (ix2 i0 i1) k = ix2 k i1 := by funext a; fin_cases a <;> rfl
  rw [el, er, rotated_apply, weight_apply]
  rfl

end Cert.ReferenceIdeal.Reference

end
-- ==== Proof.Equation.lean ====
/-
  The five claims: the three programs' frames, the rewriting of the kernel's bit pairs, and the equation of the kernel's
  and the reference's results.
-/
module

public import proofs.«01_k».proof.Defs
public import proofs.«01_k».proof.Proof.Array
public import proofs.«01_k».proof.Proof.Reference
public import Idealize.ShloMosaic.Lib.Bf16Pair
public import Idealize.ShloMosaic.Lib.Claim
public import proofs.«01_k».proof.Proof.Gen.Kernel.Frame
public import proofs.«01_k».proof.Proof.Gen.KernelIdeal.Value
public import proofs.«01_k».proof.Proof.Gen.ReferenceIdeal.Run

@[expose] public section

noncomputable section

namespace Cert.Proof

open Idealize.ShloMosaic Idealize.ShloMosaic.TcCoe Idealize.SL.Sem Idealize.ShloMosaic.StableHlo

/-- The kernel runs to its end, leaves its arguments unchanged and every semaphore at zero. -/
theorem frame_kernel : Cert.quiescent_Kernel (hKernel := Cert.Kernel.Gen.facts) :=
  fun m ρ _ => Cert.Kernel.Gen.frame m ρ

/-- So does its reading over the extended reals. -/
theorem frame_ideal : Cert.quiescent_KernelIdeal (hKernelIdeal := Cert.KernelIdeal.Gen.facts) :=
  fun m ρ _ => Cert.KernelIdeal.Gen.frame m ρ

/-- So does the reference, which has no semaphores. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Two bfloat16 scales packed into a 32-bit word and read back as two rows are the two scales. -/
theorem preserves : Cert.preserves_Kernel_KernelIdeal :=
  ⟨IdealRules.bf16_pair.halfStatement Cert.KernelIdeal.S128x256,
    IdealRules.bf16_pair.statement Cert.KernelIdeal.S256x256 Cert.KernelIdeal.S128x256⟩

/-- From equal arguments the kernel and the reference end with equal results: both are the specification's. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Spec.resultAt (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Array.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v52_eq (launchContents m' c)).trans ?_
    refine (Cert.ReferenceIdeal.Reference.result_eq _ _ _).trans ?_
    simp only [launchContents_devRef]
    obtain ⟨h0, h1, h2⟩ := hagree c
    rw [← h0, ← h1, ← h2]

end Cert.Proof

end
-- ==== Proof.lean ====
/- The certificate's claim: the five claims of `Proof.Equation`, over the generated witnesses of the programs' facts. -/
module

public import proofs.«01_k».proof.Defs
public import proofs.«01_k».proof.Proof.Equation

@[expose] public section

noncomputable section

namespace Cert.Proof

/-- The kernel, its reading over the extended reals and the reference run to their ends with their arguments and
    semaphores as they were; the kernel's reading is the kernel with its scale pairs rewritten; kernel and reference
    compute equal arrays. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
